-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x784 : Shape := ⟨2, ![16384, 784]⟩
abbrev S784x2 : Shape := ⟨2, ![784, 2]⟩
abbrev S10x784 : Shape := ⟨2, ![10, 784]⟩
abbrev S10 : Shape := ⟨1, ![10]⟩
abbrev S_ : Shape := ⟨0, ![]⟩

class Facts : Prop where
  bcast_S_S16384x784 : S_.BroadcastsInDim S16384x784 (![] : Fin 0 → Fin S16384x784.rank)
  bcast_S_S784x2 : S_.BroadcastsInDim S784x2 (![] : Fin 0 → Fin S784x2.rank)
  bcast_S_S10x784 : S_.BroadcastsInDim S10x784 (![] : Fin 0 → Fin S10x784.rank)

variable [Facts]

def fn {F : FTy → Type} [FloatOps F] (main_arg0 : FVec F S16384x784 .f32) (main_arg1 : FVec F S784x2 .f32) (main_arg2 : FVec F S784x2 .f32) (main_arg3 : FVec F S10x784 .f32) (main_arg4 : FVec F S10 .f32) : IVec S16384x784 1 × IVec S784x2 1 × IVec S784x2 1 × IVec S10x784 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_v3 : FVec F S784x2 .f32 := Host.absf main_arg1
  let main_cst_0 : FVec F S_ .f32 := constant S_ .f32 0x7F800000#32
  let main_v4 : FVec F S784x2 .f32 := broadcastInDim S784x2 ![] bcast_S_S784x2 main_cst_0
  let main_v5 : IVec S784x2 1 := cmpf .olt main_v3 main_v4
  let main_v6 : FVec F S784x2 .f32 := Host.absf main_arg2
  let main_cst_1 : FVec F S_ .f32 := constant S_ .f32 0x7F800000#32
  let main_v7 : FVec F S784x2 .f32 := broadcastInDim S784x2 ![] bcast_S_S784x2 main_cst_1
  let main_v8 : IVec S784x2 1 := cmpf .olt main_v6 main_v7
  let main_v9 : FVec F S10x784 .f32 := Host.absf main_arg3
  let main_cst_2 : FVec F S_ .f32 := constant S_ .f32 0x7F800000#32
  let main_v10 : FVec F S10x784 .f32 := broadcastInDim S10x784 ![] bcast_S_S10x784 main_cst_2
  let main_v11 : IVec S10x784 1 := cmpf .olt main_v9 main_v10
  (main_v2, main_v5, main_v8, main_v11)
-- ==== Kernel.lean ====
abbrev S16384x784 : Shape := ⟨2, ![16384, 784]⟩
abbrev S784x2 : Shape := ⟨2, ![784, 2]⟩
abbrev S10x784 : Shape := ⟨2, ![10, 784]⟩
abbrev S10 : Shape := ⟨1, ![10]⟩
abbrev S_ : Shape := ⟨0, ![]⟩
abbrev S784x16 : Shape := ⟨2, ![784, 16]⟩
abbrev S784x10 : Shape := ⟨2, ![784, 10]⟩
abbrev S1 : Shape := ⟨1, ![1]⟩
abbrev S1x16 : Shape := ⟨2, ![1, 16]⟩
abbrev S2 : Shape := ⟨1, ![2]⟩
abbrev S16384x16 : Shape := ⟨2, ![16384, 16]⟩
abbrev S16384x10 : Shape := ⟨2, ![16384, 10]⟩
abbrev S2048x784 : Shape := ⟨2, ![2048, 784]⟩
abbrev S2048x16 : Shape := ⟨2, ![2048, 16]⟩
abbrev S783x16 : Shape := ⟨2, ![783, 16]⟩
abbrev S784x1 : Shape := ⟨2, ![784, 1]⟩
abbrev S16 : Shape := ⟨1, ![16]⟩
abbrev S2048 : Shape := ⟨1, ![2048]⟩
abbrev S2048x1 : Shape := ⟨2, ![2048, 1]⟩

abbrev nBuf : Space → Nat
  | .hbm => 21
  | .vmem => 10
  | .smem => 0
  | _ => 0

abbrev bufTy : (tb : Table) → Fin (tcTables nBuf tb) → BufTy
  | .hbm, ⟨0, _⟩ => ⟨S16384x784, .f32⟩
  | .hbm, ⟨1, _⟩ => ⟨S784x2, .f32⟩
  | .hbm, ⟨2, _⟩ => ⟨S784x2, .f32⟩
  | .hbm, ⟨3, _⟩ => ⟨S10x784, .f32⟩
  | .hbm, ⟨4, _⟩ => ⟨S10, .f32⟩
  | .hbm, ⟨5, _⟩ => ⟨S_, .f32⟩
  | .hbm, ⟨6, _⟩ => ⟨S784x16, .f32⟩
  | .hbm, ⟨7, _⟩ => ⟨S784x10, .f32⟩
  | .hbm, ⟨8, _⟩ => ⟨S_, .i32⟩
  | .hbm, ⟨9, _⟩ => ⟨S1, .i32⟩
  | .hbm, ⟨10, _⟩ => ⟨S784x16, .f32⟩
  | .hbm, ⟨11, _⟩ => ⟨S_, .f32⟩
  | .hbm, ⟨12, _⟩ => ⟨S1x16, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x16, .f32⟩
  | .hbm, ⟨19, _⟩ => ⟨S16384x16, .f32⟩
  | .hbm, ⟨20, _⟩ => ⟨S16384x10, .f32⟩
  | .local _ .vmem, ⟨0, _⟩ => ⟨S2048x784, .f32⟩
  | .local _ .vmem, ⟨1, _⟩ => ⟨S2048x784, .f32⟩
  | .local _ .vmem, ⟨2, _⟩ => ⟨S784x2, .f32⟩
  | .local _ .vmem, ⟨3, _⟩ => ⟨S784x2, .f32⟩
  | .local _ .vmem, ⟨4, _⟩ => ⟨S784x16, .f32⟩
  | .local _ .vmem, ⟨5, _⟩ => ⟨S1x16, .f32⟩
  | .local _ .vmem, ⟨6, _⟩ => ⟨S2048x16, .f32⟩
  | .local _ .vmem, ⟨7, _⟩ => ⟨S2048x16, .f32⟩
  | .local _ .vmem, ⟨8, _⟩ => ⟨S784x16, .f32⟩
  | .local _ .vmem, ⟨9, _⟩ => ⟨S1x16, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S784x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384x784 : Shape := ⟨2, ![16384, 784]⟩
abbrev S784x2 : Shape := ⟨2, ![784, 2]⟩
abbrev S10x784 : Shape := ⟨2, ![10, 784]⟩
abbrev S10 : Shape := ⟨1, ![10]⟩
abbrev S16384x784x1 : Shape := ⟨3, ![16384, 784, 1]⟩
abbrev S1x784x2 : Shape := ⟨3, ![1, 784, 2]⟩
abbrev S16384x784x2 : Shape := ⟨3, ![16384, 784, 2]⟩
abbrev S16384x1568 : Shape := ⟨2, ![16384, 1568]⟩
abbrev S_ : Shape := ⟨0, ![]⟩
abbrev S1568 : Shape := ⟨1, ![1568]⟩
abbrev S1568x1 : Shape := ⟨2, ![1568, 1]⟩
abbrev S784x10 : Shape := ⟨2, ![784, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S784x2, .f32⟩
  | .hbm, ⟨2, _⟩ => ⟨S784x2, .f32⟩
  | .hbm, ⟨3, _⟩ => ⟨S10x784, .f32⟩
  | .hbm, ⟨4, _⟩ => ⟨S10, .f32⟩
  | .hbm, ⟨5, _⟩ => ⟨S784x2, .i32⟩
  | .hbm, ⟨6, _⟩ => ⟨S16384x784x1, .f32⟩
  | .hbm, ⟨7, _⟩ => ⟨S1x784x2, .f32⟩
  | .hbm, ⟨8, _⟩ => ⟨S16384x784x2, .f32⟩
  | .hbm, ⟨9, _⟩ => ⟨S16384x784x2, .f32⟩
  | .hbm, ⟨10, _⟩ => ⟨S16384x784x2, .f32⟩
  | .hbm, ⟨11, _⟩ => ⟨S1x784x2, .f32⟩
  | .hbm, ⟨12, _⟩ => ⟨S16384x784x2, .f32⟩
  | .hbm, ⟨13, _⟩ => ⟨S16384x784x2, .f32⟩
  | .hbm, ⟨14, _⟩ => ⟨S16384x1568, .f32⟩
  | .hbm, ⟨15, _⟩ => ⟨S_, .f32⟩
  | .hbm, ⟨16, _⟩ => ⟨S16384x784, .f32⟩
  | .hbm, ⟨17, _⟩ => ⟨S1568, .i32⟩
  | .hbm, ⟨18, _⟩ => ⟨S_, .i32⟩
  | .hbm, ⟨19, _⟩ => ⟨S1568, .i32⟩
  | .hbm, ⟨20, _⟩ => ⟨S1568, .i1⟩
  | .hbm, ⟨21, _⟩ => ⟨S_, .i32⟩
  | .hbm, ⟨22, _⟩ => ⟨S1568, .i32⟩
  | .hbm, ⟨23, _⟩ => ⟨S1568, .i32⟩
  | .hbm, ⟨24, _⟩ => ⟨S1568, .i32⟩
  | .hbm, ⟨25, _⟩ => ⟨S1568x1, .i32⟩
  | .hbm, ⟨26, _⟩ => ⟨S16384x784, .f32⟩
  | .hbm, ⟨27, _⟩ => ⟨S784x10, .f32⟩
  | .hbm, ⟨28, _⟩ => ⟨S16384x10, .f32⟩
  | .hbm, ⟨29, _⟩ => ⟨S1x10, .f32⟩
  | .hbm, ⟨30, _⟩ => ⟨S16384x10, .f32⟩
  | .hbm, ⟨31, _⟩ => ⟨S16384x10, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x10, .f32⟩
  | .hbm, ⟨39, _⟩ => ⟨S16384x10, .f32⟩
  | .hbm, ⟨40, _⟩ => ⟨S16384x10, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x10, .f32⟩
  | .hbm, ⟨45, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Mix.lean ====
/- The linear part of the network as an equation over the extended reals, no program in sight. Each pixel has two
   neurons; neuron `(i, c)` adds its output to pixel `dest i c`; a dense layer follows. For finite inputs and weights
   the dense layer may be applied to the neurons' weights first, which is what the kernel does. -/
module

public import Mathlib.Data.EReal.Operations
public import Mathlib.Algebra.BigOperators.Ring.Finset
public import Mathlib.Algebra.BigOperators.Fin
public import Mathlib.Tactic.FinCases
public import Mathlib.Tactic.Ring

@[expose] public section

noncomputable section

namespace Cert.Spiking

/-- The pixel that neuron `c` of pixel `i` writes to: `i + c`, wrapping at the end, save that the neurons of pixel 782
    write to pixels 0 and 1. -/
def dest (i : Fin 784) (c : Fin 2) : Fin 784 :=
  if i.val = 782 then ⟨c.val, by omega⟩ else ⟨(i.val + c.val) % 784, Nat.mod_lt _ (by omega)⟩

/-- Neuron `k` of the flat list of 1568 neurons is neuron `k % 2` of pixel `k / 2`. -/
def pixel (k : Fin 1568) : Fin 784 := ⟨k.val / 2, by omega⟩

/-- The place of neuron `k` among the two neurons of its pixel. -/
def side (k : Fin 1568) : Fin 2 := ⟨k.val % 2, by omega⟩

/-- The coercion of the reals into the extended reals commutes with finite sums. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the flat list of neurons is a sum over the pixels of the sum over the two neurons of each. -/
theorem sum_neurons {M : Type} [AddCommMonoid M] (f : Fin 784 → Fin 2 → M) :
    ∑ k : Fin 1568, f (pixel k) (side k) = ∑ i : Fin 784, (f i 0 + f i 1) := by
  have e : ∑ k : Fin (784 * 2), f (pixel k) (side k) = ∑ p : Fin 784 × Fin 2, f p.1 p.2 := by
    refine (Fintype.sum_equiv (finProdFinEquiv (m := 784) (n := 2)) (fun p => f p.1 p.2) _ fun p => ?_).symm
    have h1 : pixel (finProdFinEquiv p) = p.1 := by
      apply Fin.ext
      show (p.2.val + 2 * p.1.val) / 2 = p.1.val
      have := p.2.isLt
      omega
    have h2 : side (finProdFinEquiv p) = p.2 := by
      apply Fin.ext
      show (p.2.val + 2 * p.1.val) % 2 = p.2.val
      have := p.2.isLt
      omega
    rw [h1, h2]
  refine e.trans ?_
  rw [Fintype.sum_prod_type]
  exact Finset.sum_congr rfl fun i _ => Fin.sum_univ_two _

/-- The equation over the reals: collecting the neurons' outputs at their pixels and then weighting the pixels is
    weighting each neuron by its pixel's weight, the inputs and the biases apart. -/
theorem mix_real (x : Fin 784 → ℝ) (w b : Fin 784 → Fin 2 → ℝ) (W : Fin 784 → ℝ) :
    ∑ d : Fin 784, (∑ k : Fin 1568, if dest (pixel k) (side k) = d then x (pixel k) * w (pixel k) (side k) + b (pixel k) (side k) else 0) * W d
      = (∑ i, x i * (w i 0 * W (dest i 0) + w i 1 * W (dest i 1))) + ∑ i, (b i 0 * W (dest i 0) + b i 1 * W (dest i 1)) := by
  simp only [Finset.sum_mul]
  rw [Finset.sum_comm]
  have h : ∀ k : Fin 1568, ∑ d : Fin 784, (if dest (pixel k) (side k) = d then x (pixel k) * w (pixel k) (side k) + b (pixel k) (side k) else 0) * W d
      = (fun i c => (x i * w i c + b i c) * W (dest i c)) (pixel k) (side k) := fun k => by
    simp only [ite_mul, zero_mul, Finset.sum_ite_eq, Finset.mem_univ, if_true]
  rw [Finset.sum_congr rfl fun k _ => h k, sum_neurons fun i c => (x i * w i c + b i c) * W (dest i c), ← Finset.sum_add_distrib]
  exact Finset.sum_congr rfl fun i _ => by ring

/-- The same equation over the extended reals, for finite inputs, neuron weights, neuron biases and pixel weights; `β` is
    any extended real, added last. -/
theorem mix (x : Fin 784 → EReal) (w b : Fin 784 → Fin 2 → EReal) (W : Fin 784 → EReal) (β : EReal)
    (hx : ∀ i, ∃ r : ℝ, x i = r) (hw : ∀ i c, ∃ r : ℝ, w i c = r) (hb : ∀ i c, ∃ r : ℝ, b i c = r) (hW : ∀ i, ∃ r : ℝ, W i = r) :
    (∑ d : Fin 784, (∑ k : Fin 1568, if dest (pixel k) (side k) = d then x (pixel k) * w (pixel k) (side k) + b (pixel k) (side k) else 0) * W d) + β
      = (∑ i, x i * (w i 0 * W (dest i 0) + w i 1 * W (dest i 1))) + ((∑ i, (b i 0 * W (dest i 0) + b i 1 * W (dest i 1))) + β) := by
  choose x' hx using hx
  choose w' hw using hw
  choose b' hb using hb
  choose W' hW using hW
  rw [← add_assoc]
  congr 1
  have h := congrArg (fun r : ℝ => (r : EReal)) (mix_real x' w' b' W')
  simp only [EReal.coe_add, coe_sum_real, EReal.coe_mul, apply_ite (fun r : ℝ => (r : EReal)), EReal.coe_zero] at h
  simp only [hx, hw, hb, hW]
  exact h

end Cert.Spiking

end
-- ==== Proof.Padding.lean ====
/- A row softmax over sixteen lanes of which the last six hold minus infinity is the softmax over the first ten; no
   program in sight. -/
module

public import Idealize.ShloMosaic.PureOps.Ideal
public import Mathlib.Algebra.BigOperators.Fin

@[expose] public section

noncomputable section

namespace Cert.Spiking

open Idealize.ShloMosaic

/-- Ten lanes, padded to sixteen with minus infinity. -/
def padded (l : Fin 10 → EReal) (k : Fin 16) : EReal := if h : k.val < 10 then l ⟨k.val, h⟩ else ⊥

/-- The softmax of a row over `K` lanes, the row's maximum subtracted first. -/
def softmax {K : Nat} (l : Fin K → EReal) (n : Fin K) : EReal :=
  Ideal.div (Ideal.exp (l n - Finset.univ.fold max ⊥ l)) (∑ k, Ideal.exp (l k - Finset.univ.fold max ⊥ l))

/-- The maximum over the sixteen lanes is the maximum over the ten. -/
theorem fold_padded (l : Fin 10 → EReal) : Finset.univ.fold max ⊥ (padded l) = Finset.univ.fold max ⊥ l := by
  apply le_antisymm
  · refine (Finset.fold_max_le _).2 ⟨bot_le, fun k _ => ?_⟩
    unfold padded
    split
    · exact (Finset.le_fold_max _).2 (Or.inr ⟨_, Finset.mem_univ _, le_refl _⟩)
    · exact bot_le
  · refine (Finset.fold_max_le _).2 ⟨bot_le, fun k _ => ?_⟩
    refine (Finset.le_fold_max _).2 (Or.inr ⟨⟨k.val, by omega⟩, Finset.mem_univ _, ?_⟩)
    unfold padded
    rw [dif_pos k.isLt]

/-- A function that vanishes on the last six of sixteen lanes sums to its sum over the first ten. -/
theorem sum_padded (f : Fin 16 → EReal) (h : ∀ k : Fin 16, ¬ k.val < 10 → f k = 0) :
    ∑ k, f k = ∑ k : Fin 10, f ⟨k.val, by omega⟩ := by
  have e : ∑ k : Fin (10 + 6), f k = (∑ k : Fin 10, f ⟨k.val, by omega⟩) + ∑ k : Fin 6, f ⟨10 + k.val, by omega⟩ :=
    Fin.sum_univ_add (M := EReal) (a := 10) (b := 6) f
  refine e.trans ?_
  have z : ∑ k : Fin 6, f ⟨10 + k.val, by omega⟩ = 0 := Finset.sum_eq_zero fun k _ => h ⟨10 + k.val, by omega⟩ (by
    show ¬ 10 + k.val < 10
    omega)
  rw [z, add_zero]

/-- Padding with minus infinity does not change a softmax. -/
theorem softmax_padded (l : Fin 10 → EReal) (n : Fin 10) : softmax (padded l) ⟨n.val, by omega⟩ = softmax l n := by
  unfold softmax
  rw [fold_padded, sum_padded]
  · unfold padded
    simp only [Fin.is_lt, dite_true, Fin.eta]
  · intro k hk
    unfold padded
    rw [dif_neg hk, sub_eq_add_neg, EReal.bot_add]
    rfl

end Cert.Spiking

end
-- ==== Proof.Consts.lean ====
/- The two infinities among the programs' constants, as extended reals. -/
module

public import Idealize.ShloMosaic.PureOps.Ideal
public import Idealize.ShloMosaic.PureOps.Ideal.Laws

@[expose] public section

noncomputable section

namespace Cert.Spiking

open Idealize.ShloMosaic

/-- The pattern of minus infinity is `⊥`. -/
theorem ofBits_bot : Ideal.ofBits .f32 0xFF800000#32 = ⊥ := by simp [Ideal.ofBits, Ideal.ieee]

/-- The pattern of plus infinity is `⊤`. -/
theorem ofBits_top : Ideal.ofBits .f32 0x7F800000#32 = ⊤ := by simp [Ideal.ofBits, Ideal.ieee]

end Cert.Spiking

end
-- ==== Proof.Block.lean ====
/- What one block of the kernel computes: from a block of rows, the neurons' weights and biases, the padded final weights
   and the padded final bias, the softmax of the ten classes' logits. -/
module

public import proofs.«01_k».proof.Proof.Gen.KernelIdeal.Skeleton
public import proofs.«01_k».proof.Proof.Mix
public import proofs.«01_k».proof.Proof.Padding
public import proofs.«01_k».proof.Proof.Consts
public import Idealize.ShloMosaic.Lib.Pointwise

@[expose] public section

set_option maxRecDepth 16384

noncomputable section

namespace Cert.KernelIdeal.Block

open Cert.KernelIdeal Cert.KernelIdeal.Gen Cert.Spiking Idealize.ShloMosaic

/-- The printed test of a row number against 782, as a choice. -/
theorem select_row {α : Type} (i : Fin 784) (a b : α) :
    Scalar.select (IntOp.cmpi CmpIPredicate.eq (BitVec.ofNat 32 i.val) 782#32) a b = if i.val = 782 then a else b := by
  have h : ∀ i : Fin 784, IntOp.cmpi CmpIPredicate.eq (BitVec.ofNat 32 i.val) 782#32 = BitVec.ofBool (decide (i.val = 782)) := by
    decide +kernel
  rw [h i]
  by_cases e : i.val = 782
  · rw [if_pos e, decide_eq_true e]; rfl
  · rw [if_neg e, decide_eq_false e]; rfl

/-- The printed test of a lane number against 10, as a choice. -/
theorem select_lane {α : Type} (n : Fin 16) (a b : α) :
    Scalar.select (IntOp.cmpi CmpIPredicate.slt (BitVec.ofNat 32 n.val) 10#32) a b = if n.val < 10 then a else b := by
  have h : ∀ n : Fin 16, IntOp.cmpi CmpIPredicate.slt (BitVec.ofNat 32 n.val) 10#32 = BitVec.ofBool (decide (n.val < 10)) := by
    decide +kernel
  rw [h n]
  by_cases e : n.val < 10
  · rw [if_pos e, decide_eq_true e]; rfl
  · rw [if_neg e, decide_eq_false e]; rfl

/-- The final weights that the first neurons meet: those of the pixel the neuron writes to. -/
theorem first_apply (wf : Vec Ideal S784x16 .f32) (i : Fin 784) (n : Fin 16) :
    k0_pay5 wf (ix2 i n) = wf (ix2 (dest i 0) n) := by
  pointwise [k0_pay5, k0_pay4, k0_pay3]
  rw [select_row]
  unfold dest
  split
  · rfl
  · exact congrArg (fun d => wf (ix2 d n)) (Fin.ext (by show i.val = (i.val + 0) % 784; omega))

/-- The final weights that the second neurons meet. -/
theorem second_apply (wf : Vec Ideal S784x16 .f32) (i : Fin 784) (n : Fin 16) :
    k0_pay6 wf (ix2 i n) = wf (ix2 (dest i 1) n) := by
  pointwise [k0_pay6, k0_pay4, k0_pay3]
  rw [select_row]
  unfold dest
  split
  · rfl
  · split
    · exact congrArg (fun d => wf (ix2 d n)) (Fin.ext (by show 1 + i.val = (i.val + 1) % 784; omega))
    · exact congrArg (fun d => wf (ix2 d n)) (Fin.ext (by show i.val - 783 = (i.val + 1) % 784; omega))

/-- The fused weights: for each pixel and lane, the pixel's two neuron weights, each times the final weight of the pixel
    it writes to. -/
theorem fused_weights_apply (wf : Vec Ideal S784x16 .f32) (wsp : Vec Ideal S784x2 .f32) (i : Fin 784) (n : Fin 16) :
    k0_pay7 wf wsp (ix2 i n) = wsp (ix2 i 0) * wf (ix2 (dest i 0) n) + wsp (ix2 i 1) * wf (ix2 (dest i 1) n) := by
  rw [← first_apply wf i n, ← second_apply wf i n]
  pointwise [k0_pay7]

/-- The mask's name stands for minus infinity. -/
theorem mask_value : (Named.named κ "mask" 0xF149F2CA#32 : Ideal .f32) = (⊥ : EReal) :=
  IdealRules.named_const.ideal_named_scalar _ _ _ _ rfl

/-- The fused bias: the neurons' biases carried through the final weights, plus the final bias, in the first ten lanes;
    minus infinity in the others. -/
theorem fused_bias_apply (wf : Vec Ideal S784x16 .f32) (bsp : Vec Ideal S784x2 .f32) (bp : Vec Ideal S1x16 .f32) (n : Fin 16) :
    k0_pay1 (k0_pay8 wf bsp bp) (ix2 0 n)
      = (∑ i : Fin 784, (bsp (ix2 i 0) * wf (ix2 (dest i 0) n) + bsp (ix2 i 1) * wf (ix2 (dest i 1) n)))
        + if n.val < 10 then bp (ix2 0 n) else (⊥ : EReal) := by
  simp only [← first_apply wf _ n, ← second_apply wf _ n]
  pointwise [k0_pay1, k0_pay8]
  rw [select_lane, mask_value]

/-- One block's stored value is the row softmax over sixteen lanes of the products with the weights, plus the bias. -/
theorem stored_apply (x : Vec Ideal S2048x784 .f32) (w : Vec Ideal S784x16 .f32) (b : Vec Ideal S1x16 .f32) (r : Fin 2048) (n : Fin 16) :
    k0_pay2 x w b (ix2 r n)
      = softmax (fun n : Fin 16 => (∑ i : Fin 784, x (ix2 r i) * w (ix2 i n)) + b (ix2 0 n)) n := by
  unfold softmax
  rw [← ofBits_bot]
  pointwise [k0_pay2]

/-- For a row of the input, the softmax over sixteen lanes of its products with the fused weights, plus the fused bias, is in
    the first ten lanes the softmax of the ten classes' logits. -/
theorem row_apply (x : Fin 784 → EReal) (wf : Vec Ideal S784x16 .f32) (wsp bsp : Vec Ideal S784x2 .f32) (bp : Vec Ideal S1x16 .f32)
    (n : Fin 10) :
    softmax (fun n : Fin 16 => (∑ i : Fin 784, x i * k0_pay7 wf wsp (ix2 i n)) + k0_pay1 (k0_pay8 wf bsp bp) (ix2 0 n)) ⟨n.val, by omega⟩
      = softmax (fun n : Fin 10 =>
          (∑ i : Fin 784, x i * (wsp (ix2 i 0) * wf (ix2 (dest i 0) ⟨n.val, by omega⟩) + wsp (ix2 i 1) * wf (ix2 (dest i 1) ⟨n.val, by omega⟩)))
            + ((∑ i : Fin 784, (bsp (ix2 i 0) * wf (ix2 (dest i 0) ⟨n.val, by omega⟩) + bsp (ix2 i 1) * wf (ix2 (dest i 1) ⟨n.val, by omega⟩)))
              + bp (ix2 0 ⟨n.val, by omega⟩))) n := by
  rw [← softmax_padded]
  congr 1
  funext k
  rw [fused_bias_apply]
  unfold padded
  by_cases e : k.val < 10
  · rw [if_pos e, dif_pos e]
    simp only [fused_weights_apply]
  · rw [if_neg e, dif_neg e, EReal.add_bot, EReal.add_bot]

end Cert.KernelIdeal.Block

end
-- ==== Proof.KernelRun.lean ====
/- What the kernel's result array holds after its run: the scratch buffers keep the fused weights and bias that the first
   point builds, every point stores the softmax of its block of rows, and the blocks tile the array. -/
module

public import proofs.«01_k».proof.Proof.Block
public import proofs.«01_k».proof.Proof.Gen.KernelIdeal.Frame
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Run

open Cert.KernelIdeal Cert.KernelIdeal.Gen Cert.Spiking Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

section Cases

variable (c : Dev nD) (i : grid0.Coords) (a1 : Memref sig .tc .vmem S2048x784 .f32) (h1 : a1.IsWhole) (a2 : Memref sig .tc .vmem S784x2 .f32) (h2 : a2.IsWhole)
  (a3 : Memref sig .tc .vmem S784x2 .f32) (h3 : a3.IsWhole) (a4 : Memref sig .tc .vmem S784x16 .f32) (h4 : a4.IsWhole) (a5 : Memref sig .tc .vmem S1x16 .f32) (h5 : a5.IsWhole)
  (a6 : Memref sig .tc .vmem S2048x16 .f32) (h6 : a6.IsWhole) (a7 : Memref sig .tc .vmem S784x16 .f32) (h7 : a7.IsWhole) (a8 : Memref sig .tc .vmem S1x16 .f32) (h8 : a8.IsWhole)
  (x0 : Vec Ideal S2048x784 .f32) (x1 : Vec Ideal S784x2 .f32) (x2 : Vec Ideal S784x2 .f32) (x3 : Vec Ideal S784x16 .f32) (x4 : Vec Ideal S1x16 .f32)

/-- The first point leaves the fused weights in the first scratch buffer. -/
theorem scratch_weights (hc : cond0_0 i) :
    sout0_A_0 (F := Ideal) c i a1 h1 a2 h2 a3 h3 a4 h4 a5 h5 a6 h6 a7 h7 a8 h8 hc x0 x1 x2 x3 x4 = k0_pay7 x3 x1 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  rw [View.canon_unit_zero (S := S784x16) hz]
  simp only [View.readAt_eq_ld, h4.read_unread, h2.read_unread, View.ld_unit_zero (S := S784x16) hz, View.ld_unit_zero (S := S784x2) hz]

/-- The first point leaves the fused bias in the second scratch buffer. -/
theorem scratch_bias (hc : cond0_0 i) :
    sout0_A_1 (F := Ideal) c i a1 h1 a2 h2 a3 h3 a4 h4 a5 h5 a6 h6 a7 h7 a8 h8 hc x0 x1 x2 x3 x4 = k0_pay1 (k0_pay8 x3 x2 x4) := by
  unfold sout0_A_1
  rw [View.read_writes_eq_canon _ _ _ (scover0_A_1 c i a1 h1 a2 h2 a3 h3 a4 h4 a5 h5 a6 h6 a7 h7 a8 h8 hc x0 x1 x2 x3 x4)]
  unfold kernelRun0_A
  dsimp only
  sl_unfold_words
  rw [View.canon_unit_zero (S := S1x16) hz]
  simp only [View.readAt_eq_ld, h4.read_unread, h3.read_unread, h5.read_unread, View.ld_unit_zero (S := S784x16) hz, View.ld_unit_zero (S := S784x2) hz,
    View.ld_unit_zero (S := S1x16) hz]

/-- The first point stores its block's softmax, through the weights and bias it has just built. -/
theorem first_block (hc : cond0_0 i) :
    out0_A_5 (F := Ideal) c i a1 h1 a2 h2 a3 h3 a4 h4 a5 h5 a6 h6 a7 h7 a8 h8 hc x0 x1 x2 x3 x4 = k0_pay2 x0 (k0_pay7 x3 x1) (k0_pay1 (k0_pay8 x3 x2 x4)) := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S2048x16) hz]
  simp only [View.readCov_unit_zero (S := S784x16) _ hz, View.readCov_unit_zero (S := S1x16) _ hz, View.readAt_eq_ld, h1.read_unread, h2.read_unread, h4.read_unread, h3.read_unread, h5.read_unread,
    View.ld_unit_zero (S := S2048x784) hz, View.ld_unit_zero (S := S784x16) hz, View.ld_unit_zero (S := S784x2) hz, View.ld_unit_zero (S := S1x16) hz]

/-- A later point stores its block's softmax, through the weights and bias the scratch buffers hold. -/
theorem later_block (hc : ¬cond0_0 i) (w : Vec Ideal S784x16 .f32) (b : Vec Ideal S1x16 .f32) :
    out0_B_5 (F := Ideal) c i a1 h1 a2 h2 a3 h3 a4 h4 a5 h5 a6 h6 a7 h7 a8 h8 hc x0 x1 x2 x3 x4 w b = k0_pay2 x0 w b := by
  unfold out0_B_5
  rw [View.read_writes_eq_canon _ _ _ (cover0_B_5 c i a1 h1 a2 h2 a3 h3 a4 h4 a5 h5 a6 h6 a7 h7 a8 h8 hc x0 x1 x2 x3 x4 w b)]
  unfold kernelRun0_B
  dsimp only
  sl_unfold_words
  rw [View.canon_unit_zero (S := S2048x16) hz]
  simp only [View.readAt_eq_ld, h1.read_unread, h7.read_unread, h8.read_unread,
    View.ld_unit_zero (S := S2048x784) hz, View.ld_unit_zero (S := S784x16) hz, View.ld_unit_zero (S := S1x16) hz]

end Cases

/-! ## The blocks the points read -/

/-- The grid has eight points. -/
theorem points : cfg0.N = 8 := N_0

/-- Which block each point reads and writes: point `t` its own rows, and the whole of every other operand. -/
theorem places : ∀ t : Fin grid0.N, (win0_0.index t 0 = t.val ∧ win0_0.index t 1 = 0) ∧ (win0_5.index t 0 = t.val ∧ win0_5.index t 1 = 0)
    ∧ (∀ a, win0_1.index t a = 0) ∧ (∀ a, win0_2.index t a = 0) ∧ (∀ a, win0_3.index t a = 0) ∧ ∀ a, win0_4.index t a = 0 := by
  decide +kernel

/-- Every point is given the neurons' weights whole. -/
theorem read_wsp (c : Dev nD) (t : Fin cfg0.N) : (iblk m c 1 t : Vec Ideal S784x2 .f32) = V m c main_arg1 := by
  have hz' : (fun a => win0_1.index t a * main_arg1.ty.shape.size a) = fun _ => 0 := funext fun a => by
    rw [(places t).2.2.1 a, zero_mul]
  exact Memref.read_access_unit_zero (Elt Ideal) main_arg1 hz' (fun a => by rw [congrFun hz' a]; simp) (V m c main_arg1)

/-- Every point is given the neurons' biases whole. -/
theorem read_bsp (c : Dev nD) (t : Fin cfg0.N) : (iblk m c 2 t : Vec Ideal S784x2 .f32) = V m c main_arg2 := by
  have hz' : (fun a => win0_2.index t a * main_arg2.ty.shape.size a) = fun _ => 0 := funext fun a => by
    rw [(places t).2.2.2.1 a, zero_mul]
  exact Memref.read_access_unit_zero (Elt Ideal) main_arg2 hz' (fun a => by rw [congrFun hz' a]; simp) (V m c main_arg2)

/-- Every point is given the padded final weights whole. -/
theorem read_weights (c : Dev nD) (t : Fin cfg0.N) : (iblk m c 3 t : Vec Ideal S784x16 .f32) = V m c main_call0_v3 := by
  have hz' : (fun a => win0_3.index t a * main_call0_v3.ty.shape.size a) = fun _ => 0 := funext fun a => by
    rw [(places t).2.2.2.2.1 a, zero_mul]
  exact Memref.read_access_unit_zero (Elt Ideal) main_call0_v3 hz' (fun a => by rw [congrFun hz' a]; simp) (V m c main_call0_v3)

/-- Every point is given the padded final bias whole. -/
theorem read_bias (c : Dev nD) (t : Fin cfg0.N) : (iblk m c 4 t : Vec Ideal S1x16 .f32) = V m c main_call0_v8 := by
  have hz' : (fun a => win0_4.index t a * main_call0_v8.ty.shape.size a) = fun _ => 0 := funext fun a => by
    rw [(places t).2.2.2.2.2 a, zero_mul]
  exact Memref.read_access_unit_zero (Elt Ideal) main_call0_v8 hz' (fun a => by rw [congrFun hz' a]; simp) (V m c main_call0_v8)

/-- Point `t` reads the input's rows from `2048 t` on. -/
theorem read_rows (c : Dev nD) (t : Fin cfg0.N) (r : Fin 2048) (k : Fin 784) :
    (iblk m c 0 t : Vec Ideal S2048x784 .f32) (ix2 r k)
      = (V m c main_arg0 : Vec Ideal S16384x784 .f32) (ix2 ⟨2048 * t.val + r.val, by have := t.isLt; have := points; omega⟩ k) := by
  unfold iblk
  rw [View.read_apply]
  refine congrArg (V m c main_arg0 : Vec Ideal S16384x784 .f32) (funext fun a => Fin.ext ?_)
  match a with
  | ⟨0, _⟩ => show win0_0.index t 0 * 2048 + 1 * r.val = 2048 * t.val + r.val; rw [(places t).1.1]; omega
  | ⟨1, _⟩ => show win0_0.index t 1 * 784 + 1 * k.val = k.val; rw [(places t).1.2]; omega

/-! ## The scratch buffers and the stored blocks -/

/-- The fused weights as the first point builds them. -/
abbrev weights (c : Dev nD) : Vec Ideal S784x16 .f32 := k0_pay7 (V m c main_call0_v3 : Vec Ideal S784x16 .f32) (V m c main_arg1 : Vec Ideal S784x2 .f32)

/-- The fused bias as the first point builds it. -/
abbrev bias (c : Dev nD) : Vec Ideal S1x16 .f32 :=
  k0_pay1 (k0_pay8 (V m c main_call0_v3 : Vec Ideal S784x16 .f32) (V m c main_arg2 : Vec Ideal S784x2 .f32) (V m c main_call0_v8 : Vec Ideal S1x16 .f32))

/-- After every point the output block is the softmax of that point's rows, and the scratch buffers hold the fused weights
    and the fused bias. -/
theorem outs_eq (c : Dev nD) : ∀ (n : ℕ) (h : n < cfg0.N),
    outsAt0 m c n h = (k0_pay2 (iblk m c 0 ⟨n, h⟩ : Vec Ideal S2048x784 .f32) (weights m c) (bias m c), weights m c, bias m c)
  | 0, h => by
    rw [outsAt0_A m c ⟨0, h⟩ rfl, first_block, scratch_weights, scratch_bias, read_weights, read_wsp, read_bsp, read_bias]
  | n + 1, h => by
    have hN : cfg0.N = 8 := points
    have hB : ¬(⟨n + 1, h⟩ : Fin cfg0.N).val % 8 = 0 := by dsimp only; omega
    rw [outsAt0_B m c ⟨n + 1, h⟩ hB, later_block]
    unfold sout0_B_0 sout0_B_1
    show (k0_pay2 _ (outsAt0 m c n _).2.1 (outsAt0 m c n _).2.2, (outsAt0 m c n _).2.1, (outsAt0 m c n _).2.2) = _
    rw [outs_eq c n]

/-! ## The array -/

/-- From the input, weights over sixteen lanes and a bias over sixteen lanes: in each row the softmax of the row's products
    with the weights, plus the bias. -/
def lanesOf (X : Vec Ideal S16384x784 .f32) (W : Vec Ideal S784x16 .f32) (B : Vec Ideal S1x16 .f32) : Vec Ideal S16384x16 .f32 := fun i =>
  softmax (fun n : Fin 16 => (∑ k : Fin 784, X (ix2 (i 0) k) * W (ix2 k n)) + B (ix2 0 n)) (i 1)

/-- The result array with its six padding lanes. -/
abbrev lanes (c : Dev nD) : Vec Ideal S16384x16 .f32 := lanesOf (V m c main_arg0 : Vec Ideal S16384x784 .f32) (weights m c) (bias m c)

/-- A block of the array of softmaxes is the block's own softmax, for a block of rows read from row `o` on. -/
theorem stored_eq (X : Vec Ideal S16384x784 .f32) (W : Vec Ideal S784x16 .f32) (B : Vec Ideal S1x16 .f32) (x : Vec Ideal S2048x784 .f32)
    (o : Fin 2048 → Fin 16384) (hx : ∀ r k, x (ix2 r k) = X (ix2 (o r) k)) (r : Fin 2048) (n : Fin 16) :
    k0_pay2 x W B (ix2 r n) = lanesOf X W B (ix2 (o r) n) := by
  rw [Block.stored_apply]
  unfold lanesOf
  simp only [hx]
  rfl

/-- Where an element of point `t`'s output block lies in the array. -/
theorem place_out (t : Fin cfg0.N) (r : Fin 2048) (n : Fin 16) :
    ((cfg0.win 5).blk t).view.emb (ix2 r n) = (ix2 ⟨2048 * t.val + r.val, by have := t.isLt; have := points; omega⟩ n : S16384x16.Idx) := by
  funext a
  apply Fin.ext
  match a with
  | ⟨0, _⟩ => show win0_5.index t 0 * 2048 + 1 * r.val = 2048 * t.val + r.val; rw [(places t).2.1.1]; omega
  | ⟨1, _⟩ => show win0_5.index t 1 * 16 + 1 * n.val = n.val; rw [(places t).2.1.2]; omega

/-- What point `t` writes back is its rows of that array. -/
theorem flushed_eq (c : Dev nD) (t : Fin cfg0.N) : (dats m 0 c).flushed 5 t = ((cfg0.win 5).blk t).view.read (Elt Ideal) (lanes m c) := by
  show (cfg0.win 5).cut (grid0.coords t) ((dats m 0 c).after 5 t) = _
  rw [after0_5, outs_eq]
  generalize hL : lanes m c = L
  funext j
  obtain ⟨r, n, rfl⟩ : ∃ (r : Fin 2048) (n : Fin 16), j = ix2 r n := ⟨j 0, j 1, eq_ix2 j⟩
  rw [View.read_apply, place_out t r n, ← hL]
  exact stored_eq _ _ _ _ (fun r => ⟨2048 * t.val + r.val, by have := t.isLt; have := points; omega⟩) (read_rows m c t) r n

/-- Every element of the array is in the block of the point its row belongs to. -/
theorem covered (i : S16384x16.Idx) (t : Fin cfg0.N) (ht : t.val = (i 0 : Nat) / 2048) :
    i ∈ ((View.whole main_call0_v9).slice (win0_5.rect t)).set := by
  have h1 : (i 1 : Nat) < 16 := (i 1).isLt
  rw [View.set_slice_whole, Rect.mem_set_unit]
  intro a
  match a with
  | ⟨0, _⟩ =>
    show win0_5.index t 0 * 2048 ≤ (i 0 : Nat) ∧ (i 0 : Nat) < win0_5.index t 0 * 2048 + 2048
    rw [(places t).2.1.1]; omega
  | ⟨1, _⟩ =>
    show win0_5.index t 1 * 16 ≤ (i 1 : Nat) ∧ (i 1 : Nat) < win0_5.index t 1 * 16 + 16
    rw [(places t).2.1.2]; omega

/-- So the result array ends holding those softmaxes: row `r` is written at point `r / 2048`. -/
theorem final_lanes (c : Dev nD) : (dats m 0 c).arrAt 5 cfg0.N = lanes m c :=
  (dats m 0 c).arrAt_eq_of_cover 5 (lanes m c) (fun t _ => flushed_eq m c t) fun i =>
    have h0 : ((i : S16384x16.Idx) 0 : Nat) < 16384 := ((i : S16384x16.Idx) 0).isLt
    ⟨⟨((i : S16384x16.Idx) 0 : Nat) / 2048, by have := points; omega⟩, flush0_5 _, covered i _ rfl⟩

end Cert.KernelIdeal.Run

end
-- ==== Proof.HostPad.lean ====
/- The two padded operands of the kernel, read at a class: the transposed final layer's weights and its bias, each
   written at index 0 into an array of sixteen lanes, hold the class's own entries in the first ten. -/
module

public import proofs.«01_k».proof.Proof.Gen.KernelIdeal
public import Idealize.ShloMosaic.Lib.Routing.OpsSet
public import Idealize.ShloMosaic.Lib.Routing.OpsPair
public import Idealize.ShloMosaic.Lib.Pointwise

@[expose] public section

set_option maxRecDepth 16384

noncomputable section

namespace Cert.KernelIdeal.Pad

open Cert.KernelIdeal Cert.KernelIdeal.Gen Idealize.ShloMosaic

/-- Where an entry of the transposed weights lands: at its own row, and at its own column past the index word. -/
theorem lands_weights (idx : IVec S1 32) (h : idx (ix1 0) = 0#32) (k : S784x10.Idx) (i : Fin 784) (n : Fin 16) :
    scatter_S784x16_S1_S784x10_01_n_1_0.resultIdx? k idx = some (ix2 i n) ↔ (k 0).val = i.val ∧ (k 1).val = n.val := by
  rw [Routing.resultIdx?_eq_some]
  have s0 : scatter_S784x16_S1_S784x10_01_n_1_0.start k idx 0 = 0 := by
    unfold ScatterDims.start
    exact dif_neg (by decide)
  have s1 : scatter_S784x16_S1_S784x10_01_n_1_0.start k idx 1 = 0 := by
    have e : ∀ j : S1.Idx, idx j = 0#32 := fun j => by
      rw [show j = ix1 0 from funext fun a => by
        match a with
        | ⟨0, _⟩ => exact Subsingleton.elim (α := Fin 1) _ _]
      exact h
    unfold ScatterDims.start
    rw [dif_pos (by decide), e]
    rfl
  have w0 : scatter_S784x16_S1_S784x10_01_n_1_0.window k 0 = (k 0).val := by
    unfold ScatterDims.window
    rw [dif_pos (by decide)]
    rfl
  have w1 : scatter_S784x16_S1_S784x10_01_n_1_0.window k 1 = (k 1).val := by
    unfold ScatterDims.window
    rw [dif_pos (by decide)]
    rfl
  constructor
  · intro q
    have q0 : (0 : Int) + ((k 0).val : Int) = (i.val : Int) := by
      have := q 0
      rw [s0, w0] at this
      exact this
    have q1 : (0 : Int) + ((k 1).val : Int) = (n.val : Int) := by
      have := q 1
      rw [s1, w1] at this
      exact this
    omega
  · rintro ⟨q0, q1⟩ a
    match a with
    | ⟨0, _⟩ =>
      show _ + ((scatter_S784x16_S1_S784x10_01_n_1_0.window k 0 : Nat) : Int) = (i.val : Int)
      rw [w0, q0, show scatter_S784x16_S1_S784x10_01_n_1_0.start k idx ⟨0, _⟩ = 0 from s0, zero_add]
    | ⟨1, _⟩ =>
      show _ + ((scatter_S784x16_S1_S784x10_01_n_1_0.window k 1 : Nat) : Int) = (n.val : Int)
      rw [w1, q1, show scatter_S784x16_S1_S784x10_01_n_1_0.start k idx ⟨1, _⟩ = 0 from s1, zero_add]

/-- The padded weights at a class: the entry that was written there, whatever the padding holds. -/
theorem weights_apply {α : Type} (x0 : S784x16.Idx → α) (idx : IVec S1 32) (h : idx (ix1 0) = 0#32) (u : S784x10.Idx → α)
    (i : Fin 784) (n : Fin 10) :
    Host.scatter scatter_S784x16_S1_S784x10_01_n_1_0 (fun _ b => b) x0 idx u (ix2 i ⟨n.val, by omega⟩) = u (ix2 i n) := by
  refine Routing.scatter_set_hit _ x0 idx u _ _ (fun k hk => ?_) (ix2 i n) ((lands_weights idx h _ i _).2 ⟨rfl, rfl⟩)
  obtain ⟨e0, e1⟩ := (lands_weights idx h k i _).1 hk
  rw [eq_ix2 k]
  exact congrArg u (congrArg₂ ix2 (Fin.ext e0) (Fin.ext e1))

/-- Where an entry of the bias lands: in the one row, at its own column past the index words. -/
theorem lands_bias (idx : IVec S2 32) (h : ∀ a : Fin 2, idx (ix1 a) = 0#32) (k : S10.Idx) (n : Fin 16) :
    scatter_S1x16_S2_S10_0_0_01_0.resultIdx? k idx = some (ix2 0 n) ↔ (k 0).val = n.val := by
  rw [Routing.resultIdx?_eq_some]
  have e : ∀ j : S2.Idx, idx j = 0#32 := fun j => by rw [eq_ix1 j]; exact h _
  have s0 : scatter_S1x16_S2_S10_0_0_01_0.start k idx 0 = 0 := by
    unfold ScatterDims.start
    rw [dif_pos (by decide), e]
    rfl
  have s1 : scatter_S1x16_S2_S10_0_0_01_0.start k idx 1 = 0 := by
    unfold ScatterDims.start
    rw [dif_pos (by decide), e]
    rfl
  have w0 : scatter_S1x16_S2_S10_0_0_01_0.window k 0 = 0 := by
    unfold ScatterDims.window
    exact dif_neg (by decide)
  have w1 : scatter_S1x16_S2_S10_0_0_01_0.window k 1 = (k 0).val := by
    unfold ScatterDims.window
    rw [dif_pos (by decide)]
    rfl
  constructor
  · intro q
    have q1 : (0 : Int) + ((k 0).val : Int) = (n.val : Int) := by
      have := q 1
      rw [s1, w1] at this
      exact this
    omega
  · intro q a
    match a with
    | ⟨0, _⟩ =>
      show _ + ((scatter_S1x16_S2_S10_0_0_01_0.window k 0 : Nat) : Int) = (0 : Int)
      rw [w0, show scatter_S1x16_S2_S10_0_0_01_0.start k idx ⟨0, _⟩ = 0 from s0]
      rfl
    | ⟨1, _⟩ =>
      show _ + ((scatter_S1x16_S2_S10_0_0_01_0.window k 1 : Nat) : Int) = (n.val : Int)
      rw [w1, q, show scatter_S1x16_S2_S10_0_0_01_0.start k idx ⟨1, _⟩ = 0 from s1, zero_add]

/-- The padded bias at a class: the entry that was written there, whatever the padding holds. -/
theorem bias_apply {α : Type} (x0 : S1x16.Idx → α) (idx : IVec S2 32) (h : ∀ a : Fin 2, idx (ix1 a) = 0#32) (u : S10.Idx → α)
    (n : Fin 10) :
    Host.scatter scatter_S1x16_S2_S10_0_0_01_0 (fun _ b => b) x0 idx u (ix2 0 ⟨n.val, by omega⟩) = u (ix1 n) := by
  refine Routing.scatter_set_hit _ x0 idx u _ _ (fun k hk => ?_) (ix1 n) ((lands_bias idx h _ _).2 rfl)
  have e0 := (lands_bias idx h k _).1 hk
  rw [eq_ix1 k]
  exact congrArg u (congrArg ix1 (Fin.ext e0))

end Cert.KernelIdeal.Pad

end
-- ==== Proof.KernelValue.lean ====
/- The kernel's run read at its result: in every row, the softmax of the ten classes' logits, each logit a sum over the
   input's pixels of the pixel times its fused weight, plus the fused bias. -/
module

public import proofs.«01_k».proof.Proof.KernelRun
public import proofs.«01_k».proof.Proof.HostPad

@[expose] public section

set_option maxRecDepth 16384

noncomputable section

namespace Cert.KernelIdeal.Run

open Cert.KernelIdeal Cert.KernelIdeal.Gen Cert.Spiking Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What the region is given -/

/-- The padded final weights: the transposed weights written at index 0. -/
theorem given_weights (c : Dev nD) : (V m c main_call0_v3 : Vec Ideal S784x16 .f32)
    = Host.scatter scatter_S784x16_S1_S784x10_01_n_1_0 (fun _ b => b) (broadcastInDim S784x16 ![] bcast_S_S784x16 (constant (F := Ideal) S_ .f32 0x00000000#32))
        (broadcastInDim S1 ![] bcast_S_S1 (constantI S_ 32 0#32))
        (transpose S784x10 [1, 0] (m ((c : Thread nD τ).loc main_arg3) : Vec Ideal S10x784 .f32) transposes_S10x784_S784x10_1_0) := by
  show StableHlo.after (List.flatten [hostOps0]) (fun b => m (c, b)) (Proc.devRef .tc main_call0_v3) = _
  simp only [hostOps0, List.flatten_cons, List.flatten_nil, List.append_nil, List.cons_append, List.nil_append]
  after_results
  simp only [StableHlo.TRef.ofBuf_toBuf]
  exact eq_of_heq (cast_heq _ _)

/-- The padded bias: the bias written at index (0, 0). -/
theorem given_bias (c : Dev nD) : (V m c main_call0_v8 : Vec Ideal S1x16 .f32)
    = Host.scatter scatter_S1x16_S2_S10_0_0_01_0 (fun _ b => b) (broadcastInDim S1x16 ![] bcast_S_S1x16 (constant (F := Ideal) S_ .f32 0xF149F2CA#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (m ((c : Thread nD τ).loc main_arg4) : Vec Ideal S10 .f32) := by
  show StableHlo.after (List.flatten [hostOps0]) (fun b => m (c, b)) (Proc.devRef .tc main_call0_v8) = _
  simp only [hostOps0, List.flatten_cons, List.flatten_nil, List.append_nil, List.cons_append, List.nil_append]
  after_results
  simp only [StableHlo.TRef.ofBuf_toBuf]
  exact eq_of_heq (cast_heq _ _)

/-- A class's padded weights are that class's row of the final layer. -/
theorem weights_at (c : Dev nD) (i : Fin 784) (n : Fin 10) : (V m c main_call0_v3 : Vec Ideal S784x16 .f32) (ix2 i ⟨n.val, by omega⟩)
    = (m ((c : Thread nD τ).loc main_arg3) : Vec Ideal S10x784 .f32) (ix2 n i) := by
  rw [given_weights, Pad.weights_apply _ _ (by pointwise)]
  pointwise

/-- Both index words of the bias's write are zero. -/
theorem words_zero (a : Fin 2) : (concatenate S2 0 [⟨S1, broadcastInDim S1 ![] bcast_S_S1 (constantI S_ 32 0#32)⟩,
    ⟨S1, broadcastInDim S1 ![] bcast_S_S1 (constantI S_ 32 0#32)⟩] concatenates_S1_S1_S2_d0 : IVec S2 32) (ix1 a) = 0#32 := by
  match a with
  | ⟨0, _⟩ => rfl
  | ⟨1, _⟩ => rfl

/-- A class's padded bias is that class's bias. -/
theorem bias_at (c : Dev nD) (n : Fin 10) : (V m c main_call0_v8 : Vec Ideal S1x16 .f32) (ix2 0 ⟨n.val, by omega⟩)
    = (m ((c : Thread nD τ).loc main_arg4) : Vec Ideal S10 .f32) (ix1 n) := by
  rw [given_bias, Pad.bias_apply _ _ words_zero]

/-! ## The result -/

/-- The result in terms of the arguments: the softmax, over the ten classes, of the logits computed with fused weights. -/
def fused (x : Vec Ideal S16384x784 .f32) (w b : Vec Ideal S784x2 .f32) (W : Vec Ideal S10x784 .f32) (β : Vec Ideal S10 .f32) : Vec Ideal S16384x10 .f32 := fun j =>
  softmax (fun n : Fin 10 =>
    (∑ i : Fin 784, x (ix2 (j 0) i) * (w (ix2 i 0) * W (ix2 n (dest i 0)) + w (ix2 i 1) * W (ix2 n (dest i 1))))
      + ((∑ i : Fin 784, (b (ix2 i 0) * W (ix2 n (dest i 0)) + b (ix2 i 1) * W (ix2 n (dest i 1)))) + β (ix1 n))) (j 1)

/-- The same at the memory the kernel starts from. -/
abbrev result (c : Dev nD) : Vec Ideal S16384x10 .f32 :=
  fused (m ((c : Thread nD τ).loc main_arg0)) (m ((c : Thread nD τ).loc main_arg1)) (m ((c : Thread nD τ).loc main_arg2)) (m ((c : Thread nD τ).loc main_arg3)) (m ((c : Thread nD τ).loc main_arg4))

/-- The first ten lanes of an array of softmaxes over sixteen lanes, when the fused weights and bias are built from padded
    weights and a padded bias that hold the classes' own in their first ten lanes. -/
theorem lanesOf_at (x : Vec Ideal S16384x784 .f32) (w b : Vec Ideal S784x2 .f32) (W : Vec Ideal S10x784 .f32) (β : Vec Ideal S10 .f32)
    (wf : Vec Ideal S784x16 .f32) (bp : Vec Ideal S1x16 .f32) (hW : ∀ (i : Fin 784) (n : Fin 10), wf (ix2 i ⟨n.val, by omega⟩) = W (ix2 n i))
    (hβ : ∀ n : Fin 10, bp (ix2 0 ⟨n.val, by omega⟩) = β (ix1 n)) (r : Fin 16384) (n : Fin 10) :
    lanesOf x (k0_pay7 wf w) (k0_pay1 (k0_pay8 wf b bp)) (ix2 r ⟨n.val, by omega⟩) = fused x w b W β (ix2 r n) := by
  refine (Block.row_apply (fun k => x (ix2 r k)) wf w b bp n).trans ?_
  simp only [hW, hβ]
  rfl

/-- So the first ten lanes of the kernel's array hold the result. -/
theorem lanes_at (c : Dev nD) (r : Fin 16384) (n : Fin 10) : lanes m c (ix2 r ⟨n.val, by omega⟩) = result m c (ix2 r n) := by
  refine (lanesOf_at _ _ _ _ _ _ _ (weights_at m c) (bias_at m c) r n).trans ?_
  rw [V_main_arg0, V_main_arg1, V_main_arg2]

/-- The host keeps the first ten lanes of the array. -/
theorem kept (c : Dev nD) : Pipeline.afterTail₀ cfgs (dats m) 0 (V0 m) [hostOps1] c main_v0
    = extractStridedSlice S16384x10 ![0, 0] ((dats m 0 c).arrAt 5 cfg0.N : Vec Ideal S16384x16 .f32) slices_S16384x16_S16384x10_0_0 := by
  unfold Pipeline.afterTail₀
  simp only [hostOps1, List.flatten_cons, List.flatten_nil, List.append_nil]
  after_results
  exact congrArg (fun z => extractStridedSlice S16384x10 ![0, 0] (z : Vec Ideal S16384x16 .f32) slices_S16384x16_S16384x10_0_0)
    (Pipeline.withArrays_arr spec0 winFacts0.arr_inj c (V0 m c) (fun w => (dats m 0 c).arrAt w cfg0.N) 5)

/-- So the returned array is the softmax of the logits. -/
theorem kept_eq (c : Dev nD) : Pipeline.afterTail₀ cfgs (dats m) 0 (V0 m) [hostOps1] c main_v0 = result m c := by
  rw [kept, final_lanes]
  generalize hL : lanes m c = L
  funext j
  obtain ⟨r, n, rfl⟩ : ∃ (r : Fin 16384) (n : Fin 10), j = ix2 r n := ⟨j 0, j 1, eq_ix2 j⟩
  refine Eq.trans (b := L (ix2 r ⟨n.val, by omega⟩)) ?_ (hL ▸ lanes_at m c r n)
  pointwise

/-- The kernel ends with the softmax of the ten classes' logits, its arguments unchanged. -/
theorem run : θ_run defs (onTc (τ := τ) (main (F := Ideal))) ⟨m, fun _ => 0, ρ⟩ (fun r => ∀ c : Dev nD,
    r.2.mem ((c : Thread nD τ).loc main_v0) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun _ h c => ⟨((h c).2 main_v0 (Pipeline.mem_restRefs_of main_v0 (by decide) (by decide))).trans (kept_eq m c),
      ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.Run

end
-- ==== Proof.Spikes.lean ====
/- The reference's spikes: neuron `k` of the 1568 adds its spike to the coordinate its table names, so a coordinate holds
   the sum of the spikes sent to it. -/
module

public import proofs.«01_k».proof.Proof.Mix
public import proofs.«01_k».proof.Proof.Gen.ReferenceIdeal
public import Idealize.ShloMosaic.Lib.Routing.OpsSet
public import Idealize.ShloMosaic.Lib.Pointwise

@[expose] public section

set_option maxRecDepth 16384

noncomputable section

namespace Cert.ReferenceIdeal.Spikes

open Cert.ReferenceIdeal Cert.ReferenceIdeal.Gen Cert.Spiking Idealize.ShloMosaic

/-! ## The table -/

/-- The table names, for side `c` of pixel `i`, the coordinate `dest i c`. -/
theorem table_apply : ∀ (i : Fin 784) (c : Fin 2), lit0 (S784x2.rowMajor (ix2 i c)) = BitVec.ofNat 32 (dest i c).val := by
  decide +kernel

/-- A coordinate's word is not below zero: it is not counted from the end. -/
theorem word_kept : ∀ d : Fin 784, (Scalar.select (IntOp.cmpi .slt (BitVec.ofNat 32 d.val) 0#32)
    (IntOp.addi (BitVec.ofNat 32 d.val) 784#32) (BitVec.ofNat 32 d.val)).toInt = (d.val : Int) := by
  decide +kernel

/-- The index words the spikes are scattered by: the table's, an index below zero counted from the end. -/
def words : IVec S1568x1 32 :=
  broadcastInDim S1568x1 ![0] bcast_S1568_S1568x1_0
    (select (cmpi .slt (shapeCast _ (fun i => lit0 (S784x2.rowMajor i)) shapeCasts_S784x2_S1568) (broadcastInDim S1568 ![] bcast_S_S1568 (constantI S_ 32 0#32)))
      (addi (shapeCast _ (fun i => lit0 (S784x2.rowMajor i)) shapeCasts_S784x2_S1568) (broadcastInDim S1568 ![] bcast_S_S1568 (constantI S_ 32 784#32)))
      (shapeCast _ (fun i => lit0 (S784x2.rowMajor i)) shapeCasts_S784x2_S1568))

/-- Neuron `k`'s word is the coordinate its spike is sent to. -/
theorem words_apply (k : Fin 1568) : (words (ix2 k 0)).toInt = ((dest (pixel k) (side k)).val : Int) := by
  rw [← word_kept, ← table_apply]
  congr 1
  pointwise [words]
  rfl

/-! ## Adding the spikes up -/

/-- Where neuron `k`'s spike in row `r` lands: in its own row, at the coordinate its word names. -/
theorem lands (j : S16384x1568.Idx) (r : Fin 16384) (d : Fin 784) :
    scatter_S16384x784_S1568x1_S16384x1568_0_1_1_1.resultIdx? j words = some (ix2 r d)
      ↔ j 0 = r ∧ dest (pixel (j 1)) (side (j 1)) = d := by
  rw [Routing.resultIdx?_eq_some]
  have s0 : scatter_S16384x784_S1568x1_S16384x1568_0_1_1_1.start j words 0 = 0 := by
    unfold ScatterDims.start
    exact dif_neg (by decide)
  have s1 : scatter_S16384x784_S1568x1_S16384x1568_0_1_1_1.start j words 1 = ((dest (pixel (j 1)) (side (j 1))).val : Int) := by
    unfold ScatterDims.start
    rw [dif_pos (by decide), ← words_apply (j 1)]
    congr 2
    funext a
    match a with
    | ⟨0, _⟩ => rfl
    | ⟨1, _⟩ => rfl
  have w0 : scatter_S16384x784_S1568x1_S16384x1568_0_1_1_1.window j 0 = (j 0).val := by
    unfold ScatterDims.window
    rw [dif_pos (by decide)]
    rfl
  have w1 : scatter_S16384x784_S1568x1_S16384x1568_0_1_1_1.window j 1 = 0 := by
    unfold ScatterDims.window
    exact dif_neg (by decide)
  constructor
  · intro q
    have q0 : (0 : Int) + ((j 0).val : Int) = (r.val : Int) := by
      have := q 0
      rw [s0, w0] at this
      exact this
    have q1 : ((dest (pixel (j 1)) (side (j 1))).val : Int) + ((0 : Nat) : Int) = (d.val : Int) := by
      have := q 1
      rw [s1, w1] at this
      exact this
    exact ⟨Fin.ext (by omega), Fin.ext (by omega)⟩
  · rintro ⟨q0, q1⟩ a
    match a with
    | ⟨0, _⟩ =>
      show _ + ((scatter_S16384x784_S1568x1_S16384x1568_0_1_1_1.window j 0 : Nat) : Int) = (r.val : Int)
      rw [w0, q0, show scatter_S16384x784_S1568x1_S16384x1568_0_1_1_1.start j words ⟨0, _⟩ = 0 from s0, zero_add]
    | ⟨1, _⟩ =>
      show _ + ((scatter_S16384x784_S1568x1_S16384x1568_0_1_1_1.window j 1 : Nat) : Int) = (d.val : Int)
      rw [w1, show scatter_S16384x784_S1568x1_S16384x1568_0_1_1_1.start j words ⟨1, _⟩ = _ from s1, q1]
      exact add_zero _

/-- A sum over the entries of a table that lie in row `r` and in a column where `Q` holds, as a sum over the columns. -/
theorem sum_row {a b : Nat} (P : (⟨2, ![a, b]⟩ : Shape).Idx → Prop) [DecidablePred P] (Q : Fin b → Prop) [DecidablePred Q] (r : Fin a)
    (h : ∀ j, P j ↔ j 0 = r ∧ Q (j 1)) (u : (⟨2, ![a, b]⟩ : Shape).Idx → EReal) :
    (∑ j ∈ Finset.univ.filter P, u j) = ∑ k : Fin b, if Q k then u (ix2 r k) else 0 := by
  rw [← Finset.sum_filter]
  symm
  refine Finset.sum_bij (fun k _ => ix2 r k) (fun k hk => ?_) (fun k _ k' _ e => congrFun e 1) (fun j hj => ?_) (fun _ _ => rfl)
  · exact Finset.mem_filter.2 ⟨Finset.mem_univ _, (h _).2 ⟨rfl, (Finset.mem_filter.1 hk).2⟩⟩
  · obtain ⟨e, q⟩ := (h j).1 (Finset.mem_filter.1 hj).2
    exact ⟨j 1, Finset.mem_filter.2 ⟨Finset.mem_univ _, q⟩, (congrArg (fun z => ix2 z (j 1)) e).symm.trans (eq_ix2 j).symm⟩

/-- A coordinate of a row ends with what it held plus the spikes sent to it. -/
theorem scatter_apply (x : Vec Ideal S16384x784 .f32) (u : Vec Ideal S16384x1568 .f32) (r : Fin 16384) (d : Fin 784) :
    Host.scatterAdd (F := Ideal) (φ := .f32) scatter_S16384x784_S1568x1_S16384x1568_0_1_1_1 x words u (ix2 r d)
      = x (ix2 r d) + ∑ k : Fin 1568, if dest (pixel k) (side k) = d then u (ix2 r k) else 0 :=
  congrArg (x (ix2 r d) + ·) (sum_row _ (fun k => dest (pixel k) (side k) = d) r (fun j => lands j r d) u)

end Cert.ReferenceIdeal.Spikes

end
-- ==== Proof.ReferenceValue.lean ====
/- What the reference returns: in every row, the softmax of the ten classes' logits, each logit a sum over the 784
   coordinates of what the spikes add up to there times the final weight, plus the bias. -/
module

public import proofs.«01_k».proof.Proof.Spikes
public import proofs.«01_k».proof.Proof.Padding
public import proofs.«01_k».proof.Proof.Consts
public import proofs.«01_k».proof.Proof.Gen.ReferenceIdeal.Run
public import Idealize.ShloMosaic.Lib.Pointwise

@[expose] public section

set_option maxRecDepth 16384

noncomputable section

namespace Cert.ReferenceIdeal.Spikes

open Cert.ReferenceIdeal Cert.ReferenceIdeal.Gen Cert.Spiking Idealize.ShloMosaic Idealize.ShloMosaic.TcCoe

/-- The spikes of all 1568 neurons in every row. -/
def spikes (x : FVec Ideal S16384x784 .f32) (w b : FVec Ideal S784x2 .f32) : FVec Ideal S16384x1568 .f32 :=
  shapeCast _ (addf (mulf (broadcastInDim S16384x784x2 ![0, 1, 2] bcast_S16384x784x1_S16384x784x2_0_1_2 (broadcastInDim S16384x784x1 ![0, 1] bcast_S16384x784_S16384x784x1_0_1 x))
      (broadcastInDim S16384x784x2 ![0, 1, 2] bcast_S1x784x2_S16384x784x2_0_1_2 (broadcastInDim S1x784x2 ![1, 2] bcast_S784x2_S1x784x2_1_2 w)))
    (broadcastInDim S16384x784x2 ![0, 1, 2] bcast_S1x784x2_S16384x784x2_0_1_2 (broadcastInDim S1x784x2 ![1, 2] bcast_S784x2_S1x784x2_1_2 b)))
    shapeCasts_S16384x784x2_S16384x1568

/-- Neuron `k`'s spike is its pixel times the neuron's weight, plus the neuron's bias. -/
theorem spikes_apply (x : FVec Ideal S16384x784 .f32) (w b : FVec Ideal S784x2 .f32) (r : Fin 16384) (k : Fin 1568) :
    spikes x w b (ix2 r k) = x (ix2 r (pixel k)) * w (ix2 (pixel k) (side k)) + b (ix2 (pixel k) (side k)) := by
  pointwise [spikes]
  rfl

/-- What the spikes add up to at every coordinate of every row. -/
def added (x : FVec Ideal S16384x784 .f32) (w b : FVec Ideal S784x2 .f32) : FVec Ideal S16384x784 .f32 :=
  Host.scatterAdd scatter_S16384x784_S1568x1_S16384x1568_0_1_1_1 (broadcastInDim S16384x784 ![] bcast_S_S16384x784 (constant S_ .f32 0x00000000#32)) words (spikes x w b)

/-- At a coordinate: the sum of the spikes sent there. -/
theorem added_apply (x : FVec Ideal S16384x784 .f32) (w b : FVec Ideal S784x2 .f32) (r : Fin 16384) (d : Fin 784) :
    added x w b (ix2 r d)
      = ∑ k : Fin 1568, if dest (pixel k) (side k) = d then x (ix2 r (pixel k)) * w (ix2 (pixel k) (side k)) + b (ix2 (pixel k) (side k)) else 0 := by
  unfold added
  rw [scatter_apply]
  simp only [spikes_apply]
  have z : (broadcastInDim S16384x784 ![] bcast_S_S16384x784 (constant (F := Ideal) S_ .f32 0x00000000#32) : FVec Ideal S16384x784 .f32) (ix2 r d) = 0 := by
    pointwise
  rw [z, zero_add]

/-- The logits: the sums times the transposed final weights, plus the bias. -/
def logits (x : FVec Ideal S16384x784 .f32) (w b : FVec Ideal S784x2 .f32) (W : FVec Ideal S10x784 .f32) (β : FVec Ideal S10 .f32) : FVec Ideal S16384x10 .f32 :=
  addf (Host.dotGeneral dot_S16384x784_S784x10_S16384x10_1_0_0_1_n_n none (added x w b) (transpose S784x10 [1, 0] W transposes_S10x784_S784x10_1_0))
    (broadcastInDim S16384x10 ![0, 1] bcast_S1x10_S16384x10_0_1 (broadcastInDim S1x10 ![1] bcast_S10_S1x10_1 β))

/-- A class's logit in a row. -/
theorem logits_apply (x : FVec Ideal S16384x784 .f32) (w b : FVec Ideal S784x2 .f32) (W : FVec Ideal S10x784 .f32) (β : FVec Ideal S10 .f32)
    (r : Fin 16384) (n : Fin 10) :
    logits x w b W β (ix2 r n) = (∑ d : Fin 784, added x w b (ix2 r d) * W (ix2 n d)) + β (ix1 n) := by
  pointwise [logits]

/-- The host's softmax of an array of logits, along its classes. -/
def hostSoftmax (l : FVec Ideal S16384x10 .f32) : FVec Ideal S16384x10 .f32 :=
  let e := Host.exp (subf l (broadcastInDim S16384x10 ![0, 1] bcast_S16384x1_S16384x10_0_1 (broadcastInDim S16384x1 ![0] bcast_S16384_S16384x1_0
    (maximumf (broadcastInDim S16384 ![] bcast_S_S16384 (constant S_ .f32 0xFF800000#32)) (Host.reduce FloatOps.maximumf l (constant S_ .f32 0xFF800000#32) reducesTo_S16384x10_S16384_d1 h_S_)))))
  Host.divf e (broadcastInDim S16384x10 ![0, 1] bcast_S16384x1_S16384x10_0_1 (broadcastInDim S16384x1 ![0] bcast_S16384_S16384x1_0
    (Host.reduceAdd e (constant S_ .f32 0x00000000#32) reducesTo_S16384x10_S16384_d1 h_S_)))

/-- The returned array is the host's softmax of the logits. -/
theorem returned (m : (ℓ : Loc nD τ sig) → Buf (Elt Ideal) ℓ) (c : Dev nD) :
    Value.res_out0 m c = hostSoftmax (logits (m ((c : Thread nD τ).loc main_arg0)) (m ((c : Thread nD τ).loc main_arg1)) (m ((c : Thread nD τ).loc main_arg2))
      (m ((c : Thread nD τ).loc main_arg3)) (m ((c : Thread nD τ).loc main_arg4))) := by
  unfold Value.res_out0 Value.res_main_v33 hostSoftmax logits added spikes words
  rfl

/-- The host's softmax of a row is the row's softmax. -/
theorem hostSoftmax_apply (l : FVec Ideal S16384x10 .f32) (r : Fin 16384) (n : Fin 10) :
    hostSoftmax l (ix2 r n) = softmax (fun n : Fin 10 => l (ix2 r n)) n := by
  unfold softmax
  rw [← ofBits_bot]
  pointwise [hostSoftmax]
  rw [show Ideal.ofBits .f32 4286578688#32 = ⊥ from ofBits_bot]
  have e : ∀ z : EReal, max ⊥ z = z := fun z => max_eq_right bot_le
  simp only [e]

end Cert.ReferenceIdeal.Spikes

end
-- ==== Proof.Finite.lean ====
/- What the precondition says: every entry of the input, of the neurons' weights and biases and of the final weights is a
   real number. -/
module

public import proofs.«01_k».proof.Proof.Consts
public import proofs.«01_k».proof.Proof.Gen.Pre_finite
public import Idealize.ShloMosaic.Lib.Pointwise

@[expose] public section

noncomputable section

namespace Cert.Spiking

open Cert.Pre_finite Cert.Pre_finite.Gen Idealize.ShloMosaic

/-- A number whose absolute value is below plus infinity is real. -/
theorem real_of_abs (z : EReal) (h : max z (-z) < ⊤) : ∃ r : ℝ, z = r := by
  induction z using EReal.rec with
  | bot => exact absurd h (by simp)
  | coe r => exact ⟨r, rfl⟩
  | top => exact absurd h (by simp)

/-- A number that passes the precondition's comparison is real. -/
theorem real_of_test (z : EReal) (h : FloatOps.cmpf (F := Ideal) (φ := .f32) .olt (max z (-z)) (Ideal.ofBits .f32 0x7F800000#32) = 1#1) : ∃ r : ℝ, z = r := by
  rw [ofBits_top] at h
  refine real_of_abs z ?_
  by_contra hn
  have : FloatOps.cmpf (F := Ideal) (φ := .f32) .olt (max z (-z)) (⊤ : EReal) = 0#1 := by
    show BitVec.ofBool (decide (max z (-z) < ⊤)) = 0#1
    rw [decide_eq_false hn]
    rfl
  rw [this] at h
  exact absurd h (by decide)

variable (x : FVec Ideal S16384x784 .f32) (w b : FVec Ideal S784x2 .f32) (W : FVec Ideal S10x784 .f32) (β : FVec Ideal S10 .f32)

/-- The input's entries. -/
theorem real_x (h : (fn (F := Ideal) x w b W β).1 = fun _ => 1#1) (r : Fin 16384) (i : Fin 784) : ∃ t : ℝ, x (ix2 r i) = t := by
  refine real_of_test _ (Eq.trans ?_ (congrFun h (ix2 r i)))
  pointwise [fn]
  rfl

/-- The neurons' weights. -/
theorem real_w (h : (fn (F := Ideal) x w b W β).2.1 = fun _ => 1#1) (i : Fin 784) (c : Fin 2) : ∃ t : ℝ, w (ix2 i c) = t := by
  refine real_of_test _ (Eq.trans ?_ (congrFun h (ix2 i c)))
  pointwise [fn]
  rfl

/-- The neurons' biases. -/
theorem real_b (h : (fn (F := Ideal) x w b W β).2.2.1 = fun _ => 1#1) (i : Fin 784) (c : Fin 2) : ∃ t : ℝ, b (ix2 i c) = t := by
  refine real_of_test _ (Eq.trans ?_ (congrFun h (ix2 i c)))
  pointwise [fn]
  rfl

/-- The final weights. -/
theorem real_W (h : (fn (F := Ideal) x w b W β).2.2.2 = fun _ => 1#1) (n : Fin 10) (i : Fin 784) : ∃ t : ℝ, W (ix2 n i) = t := by
  refine real_of_test _ (Eq.trans ?_ (congrFun h (ix2 n i)))
  pointwise [fn]
  rfl

end Cert.Spiking

end
-- ==== Proof.Equation.lean ====
/- The equation: at finite inputs the kernel's fused form and the reference's spikes give the same softmax. -/
module

public import proofs.«01_k».proof.Proof.KernelValue
public import proofs.«01_k».proof.Proof.ReferenceValue
public import proofs.«01_k».proof.Proof.Finite
public import proofs.«01_k».proof.Defs

@[expose] public section

noncomputable section

namespace Cert.Spiking

open Idealize.ShloMosaic Idealize.ShloMosaic.TcCoe

/-- For real inputs, neuron weights, neuron biases and final weights, the reference's softmax of its logits is the kernel's. -/
theorem equation (x : FVec Ideal KernelIdeal.S16384x784 .f32) (w b : FVec Ideal KernelIdeal.S784x2 .f32) (W : FVec Ideal KernelIdeal.S10x784 .f32)
    (β : FVec Ideal KernelIdeal.S10 .f32) (hx : ∀ (r : Fin 16384) (i : Fin 784), ∃ t : ℝ, x (ix2 r i) = t)
    (hw : ∀ (i : Fin 784) (c : Fin 2), ∃ t : ℝ, w (ix2 i c) = t) (hb : ∀ (i : Fin 784) (c : Fin 2), ∃ t : ℝ, b (ix2 i c) = t)
    (hW : ∀ (n : Fin 10) (i : Fin 784), ∃ t : ℝ, W (ix2 n i) = t) :
    ReferenceIdeal.Spikes.hostSoftmax (ReferenceIdeal.Spikes.logits x w b W β) = KernelIdeal.Run.fused x w b W β := by
  funext j
  obtain ⟨r, n, rfl⟩ : ∃ (r : Fin 16384) (n : Fin 10), j = ix2 r n := ⟨j 0, j 1, eq_ix2 j⟩
  rw [ReferenceIdeal.Spikes.hostSoftmax_apply]
  refine congrArg (fun l : Fin 10 → EReal => softmax l n) (funext fun n => ?_)
  rw [ReferenceIdeal.Spikes.logits_apply]
  simp only [ReferenceIdeal.Spikes.added_apply]
  exact mix (fun i => x (ix2 r i)) (fun i c => w (ix2 i c)) (fun i c => b (ix2 i c)) (fun d => W (ix2 n d)) (β (ix1 n))
    (hx r) hw hb (hW n)

/-- From memories that agree on the arguments, when the kernel's arguments meet the precondition, the reference's result is
    the kernel's. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hf : Pre_KernelIdeal_finite m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Value.res_out0 m' c = KernelIdeal.Run.result m c := by
  rw [ReferenceIdeal.Spikes.returned, h0, h1, h2, h3, h4]
  obtain ⟨f0, f1, f2, f3⟩ := hf c
  exact equation _ _ _ _ _ (real_x _ _ _ _ _ f0) (real_w _ _ _ _ _ f1) (real_b _ _ _ _ _ f2) (real_W _ _ _ _ _ f3)

end Cert.Spiking

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments unchanged, and has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The constant the idealization names: the mask of the padding lanes, minus infinity. -/
theorem mask_named : Cert.preserves_Kernel_KernelIdeal :=
  IdealRules.named_const.statement Cert.KernelIdeal.κ "mask" .f32 0xF149F2CA#32 ⊥ rfl

/-- From memories that agree on finite arguments, the kernel and the reference end with equal results, the arguments of both
    unchanged. -/
theorem equal_results : Cert.algebraic_KernelIdeal_ReferenceIdeal_pre_finite := by
  intro m ρ m' ρ' hf hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  exact Cert.Spiking.results_eq m m' c hf h0 h1 h2 h3 h4

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, mask_named, equal_results⟩

end Cert.Proof

end
